-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x8192x7424 : Shape := ⟨3, ![1, 8192, 7424]⟩
abbrev S1x8192x1 : Shape := ⟨3, ![1, 8192, 1]⟩
abbrev S7424x3968 : Shape := ⟨2, ![7424, 3968]⟩
abbrev S3968 : Shape := ⟨1, ![3968]⟩
abbrev S8192x7424 : Shape := ⟨2, ![8192, 7424]⟩
abbrev S16x4x128 : Shape := ⟨3, ![16, 4, 128]⟩
abbrev S8192x3968 : Shape := ⟨2, ![8192, 3968]⟩
abbrev S512x7424 : Shape := ⟨2, ![512, 7424]⟩
abbrev S1x4x128 : Shape := ⟨3, ![1, 4, 128]⟩
abbrev S512x3968 : Shape := ⟨2, ![512, 3968]⟩
abbrev S4x128 : Shape := ⟨2, ![4, 128]⟩
abbrev S128x4 : Shape := ⟨2, ![128, 4]⟩
abbrev S1x3968 : Shape := ⟨2, ![1, 3968]⟩
abbrev S128x1 : Shape := ⟨2, ![128, 1]⟩
abbrev S128x3968 : Shape := ⟨2, ![128, 3968]⟩
abbrev S1x8192x3968 : Shape := ⟨3, ![1, 8192, 3968]⟩

abbrev nBuf : Space → Nat
  | .hbm => 9
  | .vmem => 9
  | .smem => 0
  | _ => 0

abbrev bufTy : (tb : Table) → Fin (tcTables nBuf tb) → BufTy
  | .hbm, ⟨0, _⟩ => ⟨S1x8192x7424, .fp8e4m3⟩
  | .hbm, ⟨1, _⟩ => ⟨S1x8192x1, .f32⟩
  | .hbm, ⟨2, _⟩ => ⟨S7424x3968, .fp8e4m3⟩
  | .hbm, ⟨3, _⟩ => ⟨S3968, .f32⟩
  | .hbm, ⟨4, _⟩ => ⟨S3968, .f32⟩
  | .hbm, ⟨5, _⟩ => ⟨S8192x7424, .fp8e4m3⟩
  | .hbm, ⟨6, _⟩ => ⟨S16x4x128, .f32⟩
  | .hbm, ⟨7, _⟩ => ⟨S8192x3968, .bf16⟩
  | .hbm, ⟨8, _⟩ => ⟨S1x8192x3968, .bf16⟩
  | .local _ .vmem, ⟨0, _⟩ => ⟨S512x7424, .fp8e4m3⟩
  | .local _ .vmem, ⟨1, _⟩ => ⟨S512x7424, .fp8e4m3⟩
  | .local _ .vmem, ⟨2, _⟩ => ⟨S1x4x128, .f32⟩
  | .local _ .vmem, ⟨3, _⟩ => ⟨S1x4x128, .f32⟩
  | .local _ .vmem, ⟨4, _⟩ => ⟨S7424x3968, .fp8e4m3⟩
  | .local _ .vmem, ⟨5, _⟩ => ⟨S3968, .f32⟩
  | .local _ .vmem, ⟨6, _⟩ => ⟨S3968, .f32⟩
  | .local _ .vmem, ⟨7, _⟩ => ⟨S512x3968, .bf16⟩
  | .local _ .vmem, ⟨8, _⟩ => ⟨S512x3968, .bf16⟩
  | _, _ => ⟨S1x8192x7424, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x7424 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S7424x3968 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3968 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3968 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x3968 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S1x8192x7424 : Shape := ⟨3, ![1, 8192, 7424]⟩
abbrev S1x8192x1 : Shape := ⟨3, ![1, 8192, 1]⟩
abbrev S7424x3968 : Shape := ⟨2, ![7424, 3968]⟩
abbrev S3968 : Shape := ⟨1, ![3968]⟩
abbrev S1x8192x3968 : Shape := ⟨3, ![1, 8192, 3968]⟩
abbrev S1x1x3968 : Shape := ⟨3, ![1, 1, 3968]⟩

abbrev nBuf : Space → Nat
  | .hbm => 6
  | .vmem => 6
  | .smem => 0
  | _ => 0

abbrev bufTy : (tb : Table) → Fin (tcTables nBuf tb) → BufTy
  | .hbm, ⟨0, _⟩ => ⟨S1x8192x7424, .fp8e4m3⟩
  | .hbm, ⟨1, _⟩ => ⟨S1x8192x1, .f32⟩
  | .hbm, ⟨2, _⟩ => ⟨S7424x3968, .fp8e4m3⟩
  | .hbm, ⟨3, _⟩ => ⟨S3968, .f32⟩
  | .hbm, ⟨4, _⟩ => ⟨S3968, .f32⟩
  | .hbm, ⟨5, _⟩ => ⟨S1x8192x3968, .bf16⟩
  | .local _ .vmem, ⟨0, _⟩ => ⟨S1x8192x7424, .fp8e4m3⟩
  | .local _ .vmem, ⟨1, _⟩ => ⟨S1x8192x1, .f32⟩
  | .local _ .vmem, ⟨2, _⟩ => ⟨S7424x3968, .fp8e4m3⟩
  | .local _ .vmem, ⟨3, _⟩ => ⟨S3968, .f32⟩
  | .local _ .vmem, ⟨4, _⟩ => ⟨S3968, .f32⟩
  | .local _ .vmem, ⟨5, _⟩ => ⟨S1x8192x3968, .bf16⟩
  | _, _ => ⟨S1x8192x7424, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1x8192x7424 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x8192x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7424x3968 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3968 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3968 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x8192x3968 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Block.lean ====
module

public import proofs.«01_k».proof.Proof.Gen.KernelIdeal.Frame
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Layer

open Cert.KernelIdeal Cert.KernelIdeal.Gen

variable (m : (ℓ : Loc nD τ sig) → Buf (Elt Ideal) ℓ)

/-- The linear layer on 8192 tokens, as one function of the five argument arrays: the product of the token's row with
    the output channel's column, times the token's scale, times the channel's scale, plus the channel's bias. -/
def LAYER (X : FVec Ideal S1x8192x7424 .fp8e4m3) (Xs : FVec Ideal S1x8192x1 .f32) (W : FVec Ideal S7424x3968 .fp8e4m3)
    (Ws B : FVec Ideal S3968 .f32) : FVec Ideal S8192x3968 .bf16 := fun i =>
  (∑ k : Fin 7424, X (ix3 0 (i 0) k) * W (ix2 k (i 1))) * Xs (ix3 0 (i 0) 0) * Ws (ix1 (i 1)) + B (ix1 (i 1))

/-- Where each window's block sits at grid point `t`. -/
theorem idx : ∀ t : Fin cfg0.N, win0_0.index t = ![t.val, 0] ∧ win0_1.index t = ![t.val, 0, 0] ∧ win0_2.index t = ![0, 0]
    ∧ win0_3.index t = ![0] ∧ win0_4.index t = ![0] ∧ win0_5.index t = ![t.val, 0] :=
  (by decide +kernel : ∀ t : Fin grid0.N, _)

/-- The activations as the region finds them: the host's reshape drops the leading unit axis. -/
theorem entry0 (c : Dev nD) (i : S8192x7424.Idx) (j : S1x8192x7424.Idx) (h0 : (j 1 : ℕ) = i 0) (h1 : (j 2 : ℕ) = i 1) :
    V m c main_v0 i = m ((c : Thread nD τ).loc main_arg0) j := by
  have e : V m c main_v0 = shapeCast S8192x7424 (m ((c : Thread nD τ).loc main_arg0)) shapeCasts_S1x8192x7424_S8192x7424 := by
    unfold V V0
    simp only [hostOps0, List.flatten_cons, List.flatten_nil, List.append_nil]
    after_results
    rfl
  rw [e]
  refine shapeCast_apply _ _ i j ?_
  have hb : (j 0 : ℕ) < 1 := (j 0).isLt
  rw [Shape.rowMajor_val_three, Shape.rowMajor_val_two]
  blk_simp
  omega

/-- The token scales as the region finds them: the host's reshape lays row `512 a + 128 b + l` at `(a, b, l)`. -/
theorem entry1 (c : Dev nD) (i : S16x4x128.Idx) (j : S1x8192x1.Idx) (h : (j 1 : ℕ) = i 0 * 512 + i 1 * 128 + i 2) :
    V m c main_v1 i = m ((c : Thread nD τ).loc main_arg1) j := by
  have e : V m c main_v1 = shapeCast S16x4x128 (m ((c : Thread nD τ).loc main_arg1)) shapeCasts_S1x8192x1_S16x4x128 := by
    unfold V V0
    simp only [hostOps0, List.flatten_cons, List.flatten_nil, List.append_nil]
    after_results
    rfl
  rw [e]
  refine shapeCast_apply _ _ i j ?_
  rw [Shape.rowMajor_val_three, Shape.rowMajor_val_three]
  blk_simp
  omega

/-- What the body stores at entry `y` of its block at point `t` is the linear layer at the array entry where `y` sits. -/
theorem point (c : Dev nD) (t : Fin cfg0.N) (y : S512x3968.Idx) :
    out0_5 (F := Ideal) (iblk m c 0 t) (iblk m c 1 t) (iblk m c 2 t) (iblk m c 3 t) (iblk m c 4 t) y
      = LAYER (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 5).blk t).view.emb y) := by
  unfold out0_5
  canon_tiles x h
  all_goals
    pointwise [k0_pay1, k0_pay2, k0_pay3, k0_pay4, k0_pay5, k0_pay6, k0_pay7, k0_pay8, LAYER]
    blk_point [iblk, V, idx t]
    · refine entry0 m c _ _ ?_ ?_ <;> (blk_simp [idx t] <;> first | omega | (dsimp only; omega) | (simp <;> omega))
    · refine entry1 m c _ _ ?_ <;> (blk_simp [idx t] <;> first | omega | (dsimp only; omega) | (simp <;> omega))

end Cert.KernelIdeal.Layer

end
-- ==== Proof.Run.lean ====
module

public import proofs.«01_k».proof.Proof.Block

@[expose] public section

set_option maxRecDepth 16384

noncomputable section

open Idealize.ShloMosaic Idealize.ShloMosaic.TcCoe Idealize.SL.Sem
open Idealize.ShloMosaic.Pipeline (Dat)

namespace Cert.KernelIdeal.Layer

open Cert.KernelIdeal Cert.KernelIdeal.Gen

variable (m : (ℓ : Loc nD τ sig) → Buf (Elt Ideal) ℓ)

/-- The kernel's output array after the last grid point is the linear layer of the argument arrays. -/
theorem final (c : Dev nD) :
    (dats m 0 c).arrAt 5 cfg0.N
      = LAYER (m ((c : Thread nD τ).loc main_arg0)) (m ((c : Thread nD τ).loc main_arg1)) (m ((c : Thread nD τ).loc main_arg2))
          (m ((c : Thread nD τ).loc main_arg3)) (m ((c : Thread nD τ).loc main_arg4)) :=
  (dats m 0 c).arrAt_eq_of_covers 5 _ (by decide +kernel) fun t _ y => by
    blk_simp
    rw [after0_5]
    exact point m c t y

/-- What the host's last reshape leaves in the result buffer: the linear layer with a leading unit axis. -/
theorem tail (c : Dev nD) :
    Pipeline.afterTail₀ cfgs (dats m) 0 (V0 m) [hostOps1] c main_v3
      = shapeCast S1x8192x3968
          (LAYER (m ((c : Thread nD τ).loc main_arg0)) (m ((c : Thread nD τ).loc main_arg1)) (m ((c : Thread nD τ).loc main_arg2))
            (m ((c : Thread nD τ).loc main_arg3)) (m ((c : Thread nD τ).loc main_arg4))) shapeCasts_S8192x3968_S1x8192x3968 := by
  unfold Pipeline.afterTail₀
  simp only [hostOps1, List.flatten_cons, List.flatten_nil, List.append_nil]
  after_results
  rw [← final m c]
  exact congrArg (fun x => shapeCast S1x8192x3968 x shapeCasts_S8192x3968_S1x8192x3968)
    (Pipeline.withArrays_arr cfg0.spec launch0.win.arr_inj c (V0 m c) (fun w => (dats m 0 c).arrAt w cfg0.N) 5)

/-- Every run of the kernel's program ends with the linear layer in the result buffer and the argument arrays unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v3)
          = shapeCast S1x8192x3968
              (LAYER (m ((c : Thread nD τ).loc main_arg0)) (m ((c : Thread nD τ).loc main_arg1)) (m ((c : Thread nD τ).loc main_arg2))
                (m ((c : Thread nD τ).loc main_arg3)) (m ((c : Thread nD τ).loc main_arg4))) shapeCasts_S8192x3968_S1x8192x3968
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono
    (fun r h c => ⟨((h.1 c).2 main_v3 (Pipeline.mem_restRefs_of main_v3 (by decide) (by decide))).trans (tail m c), h.2 c⟩)
    (θ_run_and (run_main m ρ) (unchanged m ρ))

end Cert.KernelIdeal.Layer

end
-- ==== Proof.Reference.lean ====
module

public import proofs.«01_k».proof.Proof.Gen.ReferenceIdeal.Value
public import proofs.«01_k».proof.Proof.Block

@[expose] public section

set_option maxRecDepth 16384

noncomputable section

open Idealize.ShloMosaic Idealize.ShloMosaic.TcCoe Idealize.SL.Sem

namespace Cert.ReferenceIdeal.Layer

/-- The reference's result array is the linear layer of its argument arrays, with a leading unit axis. -/
theorem result (X : FVec Ideal Cert.KernelIdeal.S1x8192x7424 .fp8e4m3) (Xs : FVec Ideal Cert.KernelIdeal.S1x8192x1 .f32)
    (W : FVec Ideal Cert.KernelIdeal.S7424x3968 .fp8e4m3) (Ws B : FVec Ideal Cert.KernelIdeal.S3968 .f32)
    (h : Cert.KernelIdeal.S8192x3968.ShapeCasts Cert.KernelIdeal.S1x8192x3968) :
    Cert.ReferenceIdeal.Value.G5 (F := Ideal) X Xs W Ws B
      = shapeCast Cert.KernelIdeal.S1x8192x3968 (Cert.KernelIdeal.Layer.LAYER X Xs W Ws B) h := by
  funext j
  idx_vars j
  obtain rfl : j0 = 0 := Subsingleton.elim _ _
  pointwise [Cert.ReferenceIdeal.Gen.k0_pay1, Cert.KernelIdeal.Layer.LAYER]

end Cert.ReferenceIdeal.Layer

end
-- ==== Proof.lean ====
module

public import proofs.«01_k».proof.Defs
public import proofs.«01_k».proof.Proof.Gen.ReferenceIdeal.Value
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Run
public import proofs.«01_k».proof.Proof.Reference
public import Idealize.ShloMosaic.Adequacy
public import Idealize.ShloMosaic.Init

@[expose] public section

noncomputable section

namespace Cert.Proof

open Idealize.ShloMosaic Idealize.SL.Sem Cert.Kernel

/-- From equal arguments, the kernel's program and the reference end with the same result array, over the reals. -/
theorem algebraic [hKernelIdeal : Cert.KernelIdeal.Facts] [hReferenceIdeal : Cert.ReferenceIdeal.Facts] :
    Cert.algebraic_KernelIdeal_ReferenceIdeal := by
  intro m g m' g' _ hagree
  refine ⟨_, Cert.KernelIdeal.Layer.run m g, ?_⟩
  refine (θ_run _ _ _).mono (fun r h c => ⟨(h c).1.trans ?_, (h c).2⟩) (Cert.ReferenceIdeal.Value.run m' g')
  obtain ⟨h0, h1, h2, h3, h4⟩ := hagree c
  rw [h0, h1, h2, h3, h4]
  exact Cert.ReferenceIdeal.Layer.result _ _ _ _ _ _

/-- The certificate: the three frames, the agreement of the kernel's program with its ideal form, and the value claim. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
